-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Reference (m : (ℓ : Loc Cert.Reference.nD Cert.Reference.τ Cert.Reference.sig) → Buf (Elt Bits) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def quiescent_Reference [hReference : Cert.Reference.Facts] : Prop :=
  ∀ (m : (ℓ : Loc Cert.Reference.nD Cert.Reference.τ Cert.Reference.sig) → Buf (Elt Bits) ℓ) (g : Dev Cert.Reference.nD → PrngReg), Pre_Reference m →
    θ_run (Cert.Reference.defs (F := Bits)) (onTc (τ := Cert.Reference.τ) (Cert.Reference.main (F := Bits))) ⟨m, fun _ => 0, g⟩ (fun r => (∀ c : Dev Cert.Reference.nD,
      r.2.mem ((c.tc : Thread Cert.Reference.nD Cert.Reference.τ).loc Cert.Reference.main_arg0) = m ((c.tc : Thread Cert.Reference.nD Cert.Reference.τ).loc Cert.Reference.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v2)) (v1 : (c : Dev Cert.KernelIdeal.nD) → Buf (Elt Ideal) ((c.tc : Thread Cert.KernelIdeal.nD Cert.KernelIdeal.τ).loc Cert.KernelIdeal.main_v4)) (v2 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_v4) = v1 c
          ∧ r.2.mem ((c.tc : Thread Cert.KernelIdeal.nD Cert.KernelIdeal.τ).loc Cert.KernelIdeal.main_v6) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v1) = v0 c
          ∧ r.2.mem ((c.tc : Thread Cert.ReferenceIdeal.nD Cert.ReferenceIdeal.τ).loc Cert.ReferenceIdeal.main_v3) = v1 c
          ∧ r.2.mem ((c.tc : Thread Cert.ReferenceIdeal.nD Cert.ReferenceIdeal.τ).loc Cert.ReferenceIdeal.main_v5) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def bitexact_Kernel_Reference [hKernel : Cert.Kernel.Facts] [hReference : Cert.Reference.Facts] : Prop :=
  ∀ (m : (ℓ : Loc Cert.Kernel.nD Cert.Kernel.τ Cert.Kernel.sig) → Buf (Elt Bits) ℓ) (g : Dev Cert.Kernel.nD → PrngReg)
    (m' : (ℓ : Loc Cert.Reference.nD Cert.Reference.τ Cert.Reference.sig) → Buf (Elt Bits) ℓ) (g' : Dev Cert.Reference.nD → PrngReg), Pre_Kernel m →
    (∀ c : Dev Cert.Kernel.nD,
      m' ((c.tc : Thread Cert.Reference.nD Cert.Reference.τ).loc Cert.Reference.main_arg0) = m ((c.tc : Thread Cert.Kernel.nD Cert.Kernel.τ).loc Cert.Kernel.main_arg0)) →
    ∃ (v0 : (c : Dev Cert.Kernel.nD) → Buf (Elt Bits) ((c.tc : Thread Cert.Kernel.nD Cert.Kernel.τ).loc Cert.Kernel.main_v2)) (v1 : (c : Dev Cert.Kernel.nD) → Buf (Elt Bits) ((c.tc : Thread Cert.Kernel.nD Cert.Kernel.τ).loc Cert.Kernel.main_v4)) (v2 : (c : Dev Cert.Kernel.nD) → Buf (Elt Bits) ((c.tc : Thread Cert.Kernel.nD Cert.Kernel.τ).loc Cert.Kernel.main_v6)),
      θ_run (Cert.Kernel.defs (F := Bits)) (onTc (τ := Cert.Kernel.τ) (Cert.Kernel.main (F := Bits))) ⟨m, fun _ => 0, g⟩ (fun r => ∀ c : Dev Cert.Kernel.nD,
          r.2.mem ((c.tc : Thread Cert.Kernel.nD Cert.Kernel.τ).loc Cert.Kernel.main_v2) = v0 c
          ∧ r.2.mem ((c.tc : Thread Cert.Kernel.nD Cert.Kernel.τ).loc Cert.Kernel.main_v4) = v1 c
          ∧ r.2.mem ((c.tc : Thread Cert.Kernel.nD Cert.Kernel.τ).loc Cert.Kernel.main_v6) = v2 c
          ∧ r.2.mem ((c.tc : Thread Cert.Kernel.nD Cert.Kernel.τ).loc Cert.Kernel.main_arg0) = m ((c.tc : Thread Cert.Kernel.nD Cert.Kernel.τ).loc Cert.Kernel.main_arg0))
      ∧ θ_run (Cert.Reference.defs (F := Bits)) (onTc (τ := Cert.Reference.τ) (Cert.Reference.main (F := Bits))) ⟨m', fun _ => 0, g'⟩ (fun r => ∀ c : Dev Cert.Reference.nD,
          r.2.mem ((c.tc : Thread Cert.Reference.nD Cert.Reference.τ).loc Cert.Reference.main_v1) = v0 c
          ∧ r.2.mem ((c.tc : Thread Cert.Reference.nD Cert.Reference.τ).loc Cert.Reference.main_v3) = v1 c
          ∧ r.2.mem ((c.tc : Thread Cert.Reference.nD Cert.Reference.τ).loc Cert.Reference.main_v5) = v2 c
          ∧ r.2.mem ((c.tc : Thread Cert.Reference.nD Cert.Reference.τ).loc Cert.Reference.main_arg0) = m' ((c.tc : Thread Cert.Reference.nD Cert.Reference.τ).loc Cert.Reference.main_arg0))

def Claim : Prop :=
  ∃ (hKernel : Cert.Kernel.Facts) (hKernelIdeal : Cert.KernelIdeal.Facts) (hReferenceIdeal : Cert.ReferenceIdeal.Facts) (hReference : Cert.Reference.Facts),
    quiescent_Kernel (hKernel := hKernel)
    ∧ quiescent_KernelIdeal (hKernelIdeal := hKernelIdeal)
    ∧ quiescent_ReferenceIdeal (hReferenceIdeal := hReferenceIdeal)
    ∧ quiescent_Reference (hReference := hReference)
    ∧ preserves_Kernel_KernelIdeal
    ∧ algebraic_KernelIdeal_ReferenceIdeal (hKernelIdeal := hKernelIdeal) (hReferenceIdeal := hReferenceIdeal)
    ∧ bitexact_Kernel_Reference (hKernel := hKernel) (hReference := hReference)
-- ==== Kernel.lean ====
abbrev S100000x128 : Shape := ⟨2, ![100000, 128]⟩
abbrev S8x128 : Shape := ⟨2, ![8, 128]⟩
abbrev S1x128 : Shape := ⟨2, ![1, 128]⟩
abbrev S128 : Shape := ⟨1, ![128]⟩

abbrev nBuf : Space → Nat
  | .hbm => 8
  | .vmem => 2
  | .smem => 0
  | _ => 0

abbrev bufTy : (tb : Table) → Fin (tcTables nBuf tb) → BufTy
  | .hbm, ⟨0, _⟩ => ⟨S100000x128, .f32⟩
  | .hbm, ⟨1, _⟩ => ⟨S8x128, .f32⟩
  | .hbm, ⟨2, _⟩ => ⟨S1x128, .f32⟩
  | .hbm, ⟨3, _⟩ => ⟨S128, .f32⟩
  | .hbm, ⟨4, _⟩ => ⟨S1x128, .f32⟩
  | .hbm, ⟨5, _⟩ => ⟨S128, .f32⟩
  | .hbm, ⟨6, _⟩ => ⟨S1x128, .f32⟩
  | .hbm, ⟨7, _⟩ => ⟨S128, .f32⟩
  | .local _ .vmem, ⟨0, _⟩ => ⟨S8x128, .f32⟩
  | .local _ .vmem, ⟨1, _⟩ => ⟨S8x128, .f32⟩
  | _, _ => ⟨S100000x128, .f32⟩

abbrev bufScoped : (cs : CoreSpace) → Fin (nBuf (.core cs)) → Bool
  | .vmem, ⟨0, _⟩ => true
  | .vmem, ⟨1, _⟩ => true
  | _, _ => false

abbrev semScoped : Fin 0 → Bool
  | ⟨_, h⟩ => absurd h (Nat.not_lt_zero _)

abbrev dmaSemScoped : Fin 2 → Bool
  | ⟨0, _⟩ => true
  | ⟨1, _⟩ => true
  | _ => false

abbrev sig : RefSig :=
  ofTc nBuf bufTy 0 2 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_v6 : Ref sig .tc := ⟨.hbm, 7, rfl⟩
abbrev cc0_stg0_0 : Ref sig .tc := ⟨.vmem, 0, rfl⟩
abbrev cc0_stg1_0 : Ref sig .tc := ⟨.vmem, 1, rfl⟩
abbrev cc0_sem0_0 : DmaSem sig := 0
abbrev cc0_sem1_0 : DmaSem sig := 1

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S8x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S8x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]
-- ==== Reference.lean ====
abbrev S100000x128 : Shape := ⟨2, ![100000, 128]⟩
abbrev S1x128 : Shape := ⟨2, ![1, 128]⟩
abbrev S128 : Shape := ⟨1, ![128]⟩

abbrev nBuf : Space → Nat
  | .hbm => 7
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S1x128, .f32⟩
  | .hbm, ⟨2, _⟩ => ⟨S128, .f32⟩
  | .hbm, ⟨3, _⟩ => ⟨S1x128, .f32⟩
  | .hbm, ⟨4, _⟩ => ⟨S128, .f32⟩
  | .hbm, ⟨5, _⟩ => ⟨S1x128, .f32⟩
  | .hbm, ⟨6, _⟩ => ⟨S128, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩

abbrev nD : Nat := 1
abbrev τ : Topo := Topo.v7x

variable {F : FTy → Type} [FloatOps F]
-- ==== Proof.Rows.lean ====
/- What the certificate is about, in plain terms: row `k` of a table, and the block of its first eight rows. Both programs
   are shown to end with `row x 0`, `row x 1` and `row x 2`, `x` being the argument: the reference by cutting each row out
   of `x`, the kernel by copying `top x` and cutting each row out of the copy. -/
module

public import Idealize.ShloMosaic.PureOps
public import Idealize.ShloMosaic.Lib.Pointwise

@[expose] public section

noncomputable section

namespace Cert.Rows

open Idealize.ShloMosaic

variable {F : FTy → Type}

/-- A table of `n` rows of 128 lanes. -/
abbrev Table (n : Nat) : Shape := ⟨2, ![n, 128]⟩
/-- One row of it. -/
abbrev Lanes : Shape := ⟨1, ![128]⟩

/-- Row `k` of a table. -/
def row {n : Nat} (x : Vec F (Table n) .f32) (k : Fin n) : Vec F Lanes .f32 :=
  fun j => x (ValueIdx.ix2 k (j 0))

/-- The first eight rows of a table of at least eight. -/
def top {n : Nat} (h : 8 ≤ n) (x : Vec F (Table n) .f32) : Vec F (Table 8) .f32 :=
  fun j => x (ValueIdx.ix2 ⟨(j 0).val, Nat.lt_of_lt_of_le (j 0).isLt h⟩ (j 1))

/-- A row of the first eight is that row of the table. -/
theorem row_top {n : Nat} (h : 8 ≤ n) (x : Vec F (Table n) .f32) (k : Fin 8) :
    row (top h x) k = row x ⟨k.val, Nat.lt_of_lt_of_le k.isLt h⟩ := rfl

/-- Cutting the one row `k` out of a table and dropping the unit axis gives row `k`. -/
theorem row_of_slice {n : Nat} (x : Vec F (Table n) .f32) (k : Fin n)
    (hs : (Table n).Slices ![k.val, 0] (Table 1)) (hc : (Table 1).ShapeCasts Lanes) :
    shapeCast Lanes (extractStridedSlice (Table 1) ![k.val, 0] x hs) hc = row x k := by
  funext j
  unfold row
  pointwise
  congr 1
  funext a
  match a with
  | ⟨0, _⟩ => exact Fin.ext (Nat.add_zero _)
  | ⟨1, _⟩ => exact Fin.ext (Nat.zero_add _)

end Cert.Rows

end
-- ==== Proof.KernelRows.lean ====
/- The kernel's run: what its one block reads and writes, and what the three results hold. Stated for every reading of the
   floats, since a copy computes nothing. -/
module

public import proofs.«01_k».proof.Proof.Rows
public import proofs.«01_k».proof.Proof.Gen.Kernel.Frame
public import Idealize.ShloMosaic.Lib.Pipeline.ValueKit
public import Idealize.ShloMosaic.Lib.Claim

@[expose] public section

noncomputable section

namespace Cert.Kernel.RowsRun

open Idealize.ShloMosaic Idealize.ShloMosaic.TcCoe Idealize.SL.Sem
open Cert.Kernel Cert.Kernel.Gen Cert.Rows

variable {F : FTy → Type} [FloatOps F]
variable (m : (ℓ : Loc nD τ sig) → Buf (Elt F) ℓ) (ρ : Dev nD → PrngReg)

/-- The argument on device `c`, as a table. -/
abbrev table (c : Dev nD) : Vec F (Table 100000) .f32 := m ((c.tc : Thread nD τ).loc main_arg0)

/-- Both windows are at block (0, 0) at the grid's one point. -/
theorem window_index : ∀ t : Fin cfg0.N, win0_0.index t = ![0, 0] ∧ win0_1.index t = ![0, 0] :=
  (by decide +kernel : ∀ t : Fin grid0.N, _)

/-- The block that the body reads is the first eight rows of the argument. -/
theorem block_read (c : Dev nD) : iblk m c 0 t0_0 = top (by decide) (table m c) := by
  blk_ext! [iblk, V, window_index t0_0, top]

/-- The array that the call returns ends holding the first eight rows of the argument. -/
theorem array_written (c : Dev nD) : (dats m 0 c).arrAt 1 cfg0.N = top (by decide) (table m c) := by
  refine (dats m 0 c).arrAt_eq_of_after_last 1 t0_0 (by decide +kernel) _ fun j => ?_
  blk_simp
  rw [after0_1]
  frame_out
  rw [block_read]

/-- As the lines after the call find it. -/
theorem array_left (c : Dev nD) :
    Pipeline.withArrays spec0 c (V0 m c) (fun w => (dats m 0 c).arrAt w cfg0.N) (Proc.devRef .tc main_v0)
      = top (by decide) (table m c) :=
  (Pipeline.withArrays_arr spec0 (by decide) c _ _ 1).trans (array_written m c)

/-- Cutting row `k` out of that array and dropping the unit axis gives row `k` of the argument. -/
theorem cut (c : Dev nD) (k : Fin 8) (hs : (Table 8).Slices ![k.val, 0] (Table 1)) (hc : (Table 1).ShapeCasts Lanes) :
    shapeCast Lanes (extractStridedSlice (Table 1) ![k.val, 0]
        (Pipeline.withArrays spec0 c (V0 m c) (fun w => (dats m 0 c).arrAt w cfg0.N) (Proc.devRef .tc main_v0)) hs) hc
      = row (table m c) ⟨k.val, Nat.lt_of_lt_of_le k.isLt (by decide)⟩ := by
  rw [array_left]
  exact row_of_slice _ k hs hc

/-- The first result, after the lines that follow the call: row 0 of the argument. -/
theorem result0 (c : Dev nD) :
    Pipeline.afterTail₀ cfgs (dats m) 0 (V0 m) [hostOps1] c main_v2 = row (table m c) 0 := by
  unfold Pipeline.afterTail₀
  simp only [List.flatten_cons, List.flatten_nil, List.append_nil, hostOps1]
  after_results
  exact cut m c 0 _ _

/-- The second result: row 1. -/
theorem result1 (c : Dev nD) :
    Pipeline.afterTail₀ cfgs (dats m) 0 (V0 m) [hostOps1] c main_v4 = row (table m c) 1 := by
  unfold Pipeline.afterTail₀
  simp only [List.flatten_cons, List.flatten_nil, List.append_nil, hostOps1]
  after_results
  exact cut m c 1 _ _

/-- The third result: row 2. -/
theorem result2 (c : Dev nD) :
    Pipeline.afterTail₀ cfgs (dats m) 0 (V0 m) [hostOps1] c main_v6 = row (table m c) 2 := by
  unfold Pipeline.afterTail₀
  simp only [List.flatten_cons, List.flatten_nil, List.append_nil, hostOps1]
  after_results
  exact cut m c 2 _ _

/-- The kernel terminates with rows 0, 1 and 2 of its argument in the three results, and the argument as it was. -/
theorem run : θ_run (defs (F := F)) (onTc (τ := τ) (main (F := F))) ⟨m, fun _ => 0, ρ⟩ (fun r => ∀ c : Dev nD,
    r.2.mem ((c.tc : Thread nD τ).loc main_v2) = row (table m c) 0
    ∧ r.2.mem ((c.tc : Thread nD τ).loc main_v4) = row (table m c) 1
    ∧ r.2.mem ((c.tc : Thread nD τ).loc main_v6) = row (table m c) 2
    ∧ r.2.mem ((c.tc : Thread nD τ).loc main_arg0) = m ((c.tc : Thread nD τ).loc main_arg0)) := by
  run_from run_main m ρ
  · exact result0 m c
  · exact result1 m c
  · exact result2 m c

end Cert.Kernel.RowsRun

end
-- ==== Proof.ReferenceRows.lean ====
/- The reference's run: each result is the row that it cuts out of the table. Stated for every reading of the floats. -/
module

public import proofs.«01_k».proof.Proof.Rows
public import proofs.«01_k».proof.Proof.Gen.Reference
public import Idealize.ShloMosaic.Lib.Claim
public import Idealize.ShloMosaic.Lib.Quiescent

@[expose] public section

noncomputable section

namespace Cert.Reference.RowsRun

open Idealize.ShloMosaic Idealize.ShloMosaic.TcCoe Idealize.SL.Sem
open Cert.Reference Cert.Reference.Gen Cert.Rows

variable {F : FTy → Type} [FloatOps F]
variable (m : (ℓ : Loc nD τ sig) → Buf (Elt F) ℓ) (ρ : Dev nD → PrngReg)

/-- The argument on device `c`, as a table. -/
abbrev table (c : Dev nD) : Vec F (Table 100000) .f32 := m ((c.tc : Thread nD τ).loc main_arg0)

/-- The reference terminates with rows 0, 1 and 2 of its argument in the three results and the argument as it was. -/
theorem run : θ_run (defs (F := F)) (onTc (τ := τ) (main (F := F))) ⟨m, fun _ => 0, ρ⟩ (fun r => ∀ c : Dev nD,
    r.2.mem ((c.tc : Thread nD τ).loc main_v1) = row (table m c) 0
    ∧ r.2.mem ((c.tc : Thread nD τ).loc main_v3) = row (table m c) 1
    ∧ r.2.mem ((c.tc : Thread nD τ).loc main_v5) = row (table m c) 2
    ∧ r.2.mem ((c.tc : Thread nD τ).loc main_arg0) = m ((c.tc : Thread nD τ).loc main_arg0)) := by
  hlo_run
  · exact row_of_slice (table m _) 0 _ _
  · exact row_of_slice (table m _) 1 _ _
  · exact row_of_slice (table m _) 2 _ _

/-- It leaves its argument unchanged and every semaphore counter at zero: it has no semaphores. -/
theorem frame : θ_run (defs (F := F)) (onTc (τ := τ) (main (F := F))) ⟨m, fun _ => 0, ρ⟩ (fun r => (∀ c : Dev nD,
    r.2.mem ((c.tc : Thread nD τ).loc main_arg0) = m ((c.tc : Thread nD τ).loc main_arg0)) ∧ r.2.sem = fun _ => 0) :=
  θ_run_mono (run m ρ) fun r h => ⟨fun c => (h c).2.2.2, sem_eq_zero_of_no_sems (by decide) r.2⟩

end Cert.Reference.RowsRun

end
-- ==== Proof.lean ====
/- The certificate's proof. Proof/Rows.lean says what a row is, Proof/KernelRows.lean and Proof/ReferenceRows.lean what each
   program ends with; here the two runs are put side by side, once over words and once over the extended reals. The kernel's
   two frames are the generated ones. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Reference
public import proofs.«01_k».proof.Proof.KernelRows
public import proofs.«01_k».proof.Proof.ReferenceRows
public import Idealize.ShloMosaic.Adequacy
public import Idealize.ShloMosaic.Init

@[expose] public section

noncomputable section

namespace Cert.Proof

open Idealize.ShloMosaic Idealize.SL.Sem Cert.Kernel

/-- The idealized kernel's body is the kernel's, read over the extended reals, -/
theorem kernelIdeal_bodies : KernelIdeal.defs₀ (F := Ideal) = Kernel.defs₀ := by
  unfold KernelIdeal.defs₀ Kernel.defs₀
  refine congrArg (Defs.onTc (nD := Kernel.nD) (τ := Kernel.τ) (sig := Kernel.sig) (Λ := Kernel.Λ₀)) ?_
  funext l a
  match l, a with
  | 0, (t, s) => rfl

/-- and so is its table of bodies and pipelines. -/
theorem kernelIdeal_defs : KernelIdeal.defs (F := Ideal) = Kernel.defs :=
  congrArg (Pipeline.defs (Kernel.pcfgs (F := Ideal))) kernelIdeal_bodies

/-- So the kernel's run, read over the extended reals, is the idealized kernel's: it ends with rows 0, 1 and 2 of its
    argument in the three results, and the argument as it was. -/
theorem kernelIdeal_run (m : (ℓ : Loc KernelIdeal.nD KernelIdeal.τ KernelIdeal.sig) → Buf (Elt Ideal) ℓ)
    (ρ : Dev KernelIdeal.nD → PrngReg) :
    θ_run (KernelIdeal.defs (F := Ideal)) (onTc (τ := KernelIdeal.τ) (KernelIdeal.main (F := Ideal))) ⟨m, fun _ => 0, ρ⟩
      (fun r => ∀ c : Dev KernelIdeal.nD,
        r.2.mem ((c.tc : Thread KernelIdeal.nD KernelIdeal.τ).loc KernelIdeal.main_v2) = Rows.row (n := 100000) (m ((c.tc : Thread KernelIdeal.nD KernelIdeal.τ).loc KernelIdeal.main_arg0)) 0
        ∧ r.2.mem ((c.tc : Thread KernelIdeal.nD KernelIdeal.τ).loc KernelIdeal.main_v4) = Rows.row (n := 100000) (m ((c.tc : Thread KernelIdeal.nD KernelIdeal.τ).loc KernelIdeal.main_arg0)) 1
        ∧ r.2.mem ((c.tc : Thread KernelIdeal.nD KernelIdeal.τ).loc KernelIdeal.main_v6) = Rows.row (n := 100000) (m ((c.tc : Thread KernelIdeal.nD KernelIdeal.τ).loc KernelIdeal.main_arg0)) 2
        ∧ r.2.mem ((c.tc : Thread KernelIdeal.nD KernelIdeal.τ).loc KernelIdeal.main_arg0) = m ((c.tc : Thread KernelIdeal.nD KernelIdeal.τ).loc KernelIdeal.main_arg0)) := by
  rw [kernelIdeal_defs]
  exact Cert.Kernel.RowsRun.run (F := Ideal) m ρ

/-- The same of the reference: its idealization is its own text. -/
theorem referenceIdeal_run (m : (ℓ : Loc ReferenceIdeal.nD ReferenceIdeal.τ ReferenceIdeal.sig) → Buf (Elt Ideal) ℓ)
    (ρ : Dev ReferenceIdeal.nD → PrngReg) :
    θ_run (ReferenceIdeal.defs (F := Ideal)) (onTc (τ := ReferenceIdeal.τ) (ReferenceIdeal.main (F := Ideal))) ⟨m, fun _ => 0, ρ⟩
      (fun r => ∀ c : Dev ReferenceIdeal.nD,
        r.2.mem ((c.tc : Thread ReferenceIdeal.nD ReferenceIdeal.τ).loc ReferenceIdeal.main_v1) = Rows.row (n := 100000) (m ((c.tc : Thread ReferenceIdeal.nD ReferenceIdeal.τ).loc ReferenceIdeal.main_arg0)) 0
        ∧ r.2.mem ((c.tc : Thread ReferenceIdeal.nD ReferenceIdeal.τ).loc ReferenceIdeal.main_v3) = Rows.row (n := 100000) (m ((c.tc : Thread ReferenceIdeal.nD ReferenceIdeal.τ).loc ReferenceIdeal.main_arg0)) 1
        ∧ r.2.mem ((c.tc : Thread ReferenceIdeal.nD ReferenceIdeal.τ).loc ReferenceIdeal.main_v5) = Rows.row (n := 100000) (m ((c.tc : Thread ReferenceIdeal.nD ReferenceIdeal.τ).loc ReferenceIdeal.main_arg0)) 2
        ∧ r.2.mem ((c.tc : Thread ReferenceIdeal.nD ReferenceIdeal.τ).loc ReferenceIdeal.main_arg0) = m ((c.tc : Thread ReferenceIdeal.nD ReferenceIdeal.τ).loc ReferenceIdeal.main_arg0)) :=
  Cert.Reference.RowsRun.run (F := Ideal) m ρ

/-- Over the extended reals kernel and reference return the same three rows. -/
theorem algebraic : Cert.algebraic_KernelIdeal_ReferenceIdeal := by
  pair_intro
  · run_from kernelIdeal_run m g
  · run_from referenceIdeal_run m' g'

/-- Kernel and reference return the same words. -/
theorem bitexact : Cert.bitexact_Kernel_Reference := by
  pair_intro
  · run_from Cert.Kernel.RowsRun.run m g
  · run_from Cert.Reference.RowsRun.run m' g'

/-- The certificate: the four frames, the idealization without rewrites, and the two equalities of results. -/
theorem claim : Cert.Claim := ⟨Cert.Kernel.Gen.facts, Cert.KernelIdeal.Gen.facts, Cert.ReferenceIdeal.Gen.facts, Cert.Reference.Gen.facts,
  fun m ρ _ => Cert.Kernel.Gen.frame m ρ,
  fun m ρ _ => Cert.KernelIdeal.Gen.frame m ρ,
  fun m ρ _ => Cert.Reference.RowsRun.frame (F := Ideal) m ρ,
  fun m ρ _ => Cert.Reference.RowsRun.frame m ρ,
  trivial,
  algebraic,
  bitexact⟩

end Cert.Proof

end
